-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x64x256x256 : Shape := ⟨4, ![16, 64, 256, 256]⟩
abbrev S16x1x256x256 : Shape := ⟨4, ![16, 1, 256, 256]⟩
abbrev S64 : Shape := ⟨1, ![64]⟩
abbrev S_ : Shape := ⟨0, ![]⟩

class Facts : Prop where
  bcast_S_S16x64x256x256 : S_.BroadcastsInDim S16x64x256x256 (![] : Fin 0 → Fin S16x64x256x256.rank)
  bcast_S_S16x1x256x256 : S_.BroadcastsInDim S16x1x256x256 (![] : Fin 0 → Fin S16x1x256x256.rank)
  bcast_S16x1x256x256_S16x64x256x256_0_1_2_3 : S16x1x256x256.BroadcastsInDim S16x64x256x256 (![0, 1, 2, 3] : Fin 4 → Fin S16x64x256x256.rank)
  bcast_S_S64 : S_.BroadcastsInDim S64 (![] : Fin 0 → Fin S64.rank)

variable [Facts]

def fn {F : FTy → Type} [FloatOps F] (main_arg0 : FVec F S16x64x256x256 .f32) (main_arg1 : FVec F S16x1x256x256 .f32) (main_arg2 : FVec F S64 .f32) (main_arg3 : FVec F S64 .f32) : IVec S16x64x256x256 1 × IVec S64 1 :=
  let main_cst : FVec F S_ .f32 := constant S_ .f32 0x00000000#32
  let main_v0 : FVec F S16x64x256x256 .f32 := broadcastInDim S16x64x256x256 ![] bcast_S_S16x64x256x256 main_cst
  let main_cst_0 : FVec F S_ .f32 := constant S_ .f32 0x3F000000#32
  let main_v1 : FVec F S16x1x256x256 .f32 := broadcastInDim S16x1x256x256 ![] bcast_S_S16x1x256x256 main_cst_0
  let main_v2 : IVec S16x1x256x256 1 := cmpf .ogt main_arg1 main_v1
  let main_v3 : IVec S16x64x256x256 1 := broadcastInDim S16x64x256x256 ![0, 1, 2, 3] bcast_S16x1x256x256_S16x64x256x256_0_1_2_3 main_v2
  let main_v4 : FVec F S16x64x256x256 .f32 := select main_v3 main_arg0 main_v0
  let main_v5 : FVec F S16x64x256x256 .f32 := Host.absf main_v4
  let main_cst_1 : FVec F S_ .f32 := constant S_ .f32 0x7F800000#32
  let main_v6 : FVec F S16x64x256x256 .f32 := broadcastInDim S16x64x256x256 ![] bcast_S_S16x64x256x256 main_cst_1
  let main_v7 : IVec S16x64x256x256 1 := cmpf .olt main_v5 main_v6
  let main_v8 : FVec F S64 .f32 := Host.absf main_arg2
  let main_cst_2 : FVec F S_ .f32 := constant S_ .f32 0x7F800000#32
  let main_v9 : FVec F S64 .f32 := broadcastInDim S64 ![] bcast_S_S64 main_cst_2
  let main_v10 : IVec S64 1 := cmpf .olt main_v8 main_v9
  (main_v7, main_v10)
-- ==== Kernel.lean ====
abbrev S16x64x256x256 : Shape := ⟨4, ![16, 64, 256, 256]⟩
abbrev S16x1x256x256 : Shape := ⟨4, ![16, 1, 256, 256]⟩
abbrev S64 : Shape := ⟨1, ![64]⟩
abbrev S16x64x1 : Shape := ⟨3, ![16, 64, 1]⟩
abbrev S16x1x1 : Shape := ⟨3, ![16, 1, 1]⟩
abbrev S1x64x256x256 : Shape := ⟨4, ![1, 64, 256, 256]⟩
abbrev S1x1x256x256 : Shape := ⟨4, ![1, 1, 256, 256]⟩
abbrev S1x64x1 : Shape := ⟨3, ![1, 64, 1]⟩
abbrev S1x1x1 : Shape := ⟨3, ![1, 1, 1]⟩
abbrev S256x256 : Shape := ⟨2, ![256, 256]⟩
abbrev S4x16x256 : Shape := ⟨3, ![4, 16, 256]⟩
abbrev S1x4x16x256 : Shape := ⟨4, ![1, 4, 16, 256]⟩
abbrev S16x256 : Shape := ⟨2, ![16, 256]⟩
abbrev S1x16x256 : Shape := ⟨3, ![1, 16, 256]⟩
abbrev S4x256 : Shape := ⟨2, ![4, 256]⟩
abbrev S4 : Shape := ⟨1, ![4]⟩
abbrev S4x1 : Shape := ⟨2, ![4, 1]⟩
abbrev S1x4x1 : Shape := ⟨3, ![1, 4, 1]⟩
abbrev S256 : Shape := ⟨1, ![256]⟩
abbrev S1x256 : Shape := ⟨2, ![1, 256]⟩
abbrev S1 : Shape := ⟨1, ![1]⟩
abbrev S1x1 : Shape := ⟨2, ![1, 1]⟩
abbrev S1x64 : Shape := ⟨2, ![1, 64]⟩
abbrev S64x1 : Shape := ⟨2, ![64, 1]⟩
abbrev S16x64 : Shape := ⟨2, ![16, 64]⟩
abbrev S16x1 : Shape := ⟨2, ![16, 1]⟩
abbrev S1x64x64x256 : Shape := ⟨4, ![1, 64, 64, 256]⟩
abbrev S1x1x64x256 : Shape := ⟨4, ![1, 1, 64, 256]⟩
abbrev S64x64x256 : Shape := ⟨3, ![64, 64, 256]⟩
abbrev S64x256 : Shape := ⟨2, ![64, 256]⟩
abbrev S64x1x1 : Shape := ⟨3, ![64, 1, 1]⟩
abbrev S1x64x256 : Shape := ⟨3, ![1, 64, 256]⟩

abbrev nBuf : Space → Nat
  | .hbm => 12
  | .vmem => 25
  | .smem => 0
  | _ => 0

abbrev bufTy : (tb : Table) → Fin (tcTables nBuf tb) → BufTy
  | .hbm, ⟨0, _⟩ => ⟨S16x64x256x256, .f32⟩
  | .hbm, ⟨1, _⟩ => ⟨S16x1x256x256, .f32⟩
  | .hbm, ⟨2, _⟩ => ⟨S64, .f32⟩
  | .hbm, ⟨3, _⟩ => ⟨S64, .f32⟩
  | .hbm, ⟨4, _⟩ => ⟨S16x64x1, .f32⟩
  | .hbm, ⟨5, _⟩ => ⟨S16x64x1, .f32⟩
  | .hbm, ⟨6, _⟩ => ⟨S16x1x1, .f32⟩
  | .hbm, ⟨7, _⟩ => ⟨S1x64, .f32⟩
  | .hbm, ⟨8, _⟩ => ⟨S1x64, .f32⟩
  | .hbm, ⟨9, _⟩ => ⟨S64x1, .f32⟩
  | .hbm, ⟨10, _⟩ => ⟨S64x1, .f32⟩
  | .hbm, ⟨11, _⟩ => ⟨S16x64x256x256, .f32⟩
  | .local _ .vmem, ⟨0, _⟩ => ⟨S1x64x256x256, .f32⟩
  | .local _ .vmem, ⟨1, _⟩ => ⟨S1x64x256x256, .f32⟩
  | .local _ .vmem, ⟨2, _⟩ => ⟨S1x1x256x256, .f32⟩
  | .local _ .vmem, ⟨3, _⟩ => ⟨S1x1x256x256, .f32⟩
  | .local _ .vmem, ⟨4, _⟩ => ⟨S1x64x1, .f32⟩
  | .local _ .vmem, ⟨5, _⟩ => ⟨S1x64x1, .f32⟩
  | .local _ .vmem, ⟨6, _⟩ => ⟨S1x64x1, .f32⟩
  | .local _ .vmem, ⟨7, _⟩ => ⟨S1x64x1, .f32⟩
  | .local _ .vmem, ⟨8, _⟩ => ⟨S1x1x1, .f32⟩
  | .local _ .vmem, ⟨9, _⟩ => ⟨S1x1x1, .f32⟩
  | .local _ .vmem, ⟨10, _⟩ => ⟨S16x64x1, .f32⟩
  | .local _ .vmem, ⟨11, _⟩ => ⟨S16x64x1, .f32⟩
  | .local _ .vmem, ⟨12, _⟩ => ⟨S16x1x1, .f32⟩
  | .local _ .vmem, ⟨13, _⟩ => ⟨S1x64, .f32⟩
  | .local _ .vmem, ⟨14, _⟩ => ⟨S1x64, .f32⟩
  | .local _ .vmem, ⟨15, _⟩ => ⟨S64x1, .f32⟩
  | .local _ .vmem, ⟨16, _⟩ => ⟨S64x1, .f32⟩
  | .local _ .vmem, ⟨17, _⟩ => ⟨S64x1, .f32⟩
  | .local _ .vmem, ⟨18, _⟩ => ⟨S64x1, .f32⟩
  | .local _ .vmem, ⟨19, _⟩ => ⟨S1x64x64x256, .f32⟩
  | .local _ .vmem, ⟨20, _⟩ => ⟨S1x64x64x256, .f32⟩
  | .local _ .vmem, ⟨21, _⟩ => ⟨S1x1x64x256, .f32⟩
  | .local _ .vmem, ⟨22, _⟩ => ⟨S1x1x64x256, .f32⟩
  | .local _ .vmem, ⟨23, _⟩ => ⟨S1x64x64x256, .f32⟩
  | .local _ .vmem, ⟨24, _⟩ => ⟨S1x64x64x256, .f32⟩
  | _, _ => ⟨S16x64x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc2_stg0_0 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc2_stg4_0 : Ref sig .tc := ⟨.vmem, 23, rfl⟩
abbrev cc2_stg4_1 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc2_sem0_0 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc2_sem4_0 : DmaSem sig := 23
abbrev cc2_sem4_1 : DmaSem sig := 24

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S16x64x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S16x64x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_3 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc2_transform_4 (i : grid2.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage2_0 : Fin 1 → Memref sig .tc .vmem S64x1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 1 → Memref sig .tc .vmem S64x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x64x64x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x1x64x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S1x64x64x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== ReferenceIdeal.lean ====
abbrev S16x64x256x256 : Shape := ⟨4, ![16, 64, 256, 256]⟩
abbrev S16x1x256x256 : Shape := ⟨4, ![16, 1, 256, 256]⟩
abbrev S64 : Shape := ⟨1, ![64]⟩
abbrev S_ : Shape := ⟨0, ![]⟩
abbrev S16x64 : Shape := ⟨2, ![16, 64]⟩
abbrev S16x64x1x1 : Shape := ⟨4, ![16, 64, 1, 1]⟩
abbrev S1x64x1x1 : Shape := ⟨4, ![1, 64, 1, 1]⟩

abbrev nBuf : Space → Nat
  | .hbm => 68
  | .vmem => 0
  | .smem => 0
  | _ => 0

abbrev bufTy : (tb : Table) → Fin (tcTables nBuf tb) → BufTy
  | .hbm, ⟨0, _⟩ => ⟨S16x64x256x256, .f32⟩
  | .hbm, ⟨1, _⟩ => ⟨S16x1x256x256, .f32⟩
  | .hbm, ⟨2, _⟩ => ⟨S64, .f32⟩
  | .hbm, ⟨3, _⟩ => ⟨S64, .f32⟩
  | .hbm, ⟨4, _⟩ => ⟨S_, .f32⟩
  | .hbm, ⟨5, _⟩ => ⟨S16x1x256x256, .f32⟩
  | .hbm, ⟨6, _⟩ => ⟨S16x1x256x256, .i1⟩
  | .hbm, ⟨7, _⟩ => ⟨S16x64x256x256, .i1⟩
  | .hbm, ⟨8, _⟩ => ⟨S16x64x256x256, .f32⟩
  | .hbm, ⟨9, _⟩ => ⟨S_, .f32⟩
  | .hbm, ⟨10, _⟩ => ⟨S16x64, .f32⟩
  | .hbm, ⟨11, _⟩ => ⟨S16x64x256x256, .f32⟩
  | .hbm, ⟨12, _⟩ => ⟨S_, .f32⟩
  | .hbm, ⟨13, _⟩ => ⟨S16x64, .f32⟩
  | .hbm, ⟨14, _⟩ => ⟨S_, .f32⟩
  | .hbm, ⟨15, _⟩ => ⟨S16x64, .f32⟩
  | .hbm, ⟨16, _⟩ => ⟨S16x64, .f32⟩
  | .hbm, ⟨17, _⟩ => ⟨S_, .f32⟩
  | .hbm, ⟨18, _⟩ => ⟨S16x64, .f32⟩
  | .hbm, ⟨19, _⟩ => ⟨S16x64, .i1⟩
  | .hbm, ⟨20, _⟩ => ⟨S16x64, .f32⟩
  | .hbm, ⟨21, _⟩ => ⟨S_, .f32⟩
  | .hbm, ⟨22, _⟩ => ⟨S_, .f32⟩
  | .hbm, ⟨23, _⟩ => ⟨S16x64, .f32⟩
  | .hbm, ⟨24, _⟩ => ⟨S16x64, .f32⟩
  | .hbm, ⟨25, _⟩ => ⟨S16x64x1x1, .f32⟩
  | .hbm, ⟨26, _⟩ => ⟨S16x64x256x256, .f32⟩
  | .hbm, ⟨27, _⟩ => ⟨S16x64x256x256, .f32⟩
  | .hbm, ⟨28, _⟩ => ⟨S16x64x256x256, .f32⟩
  | .hbm, ⟨29, _⟩ => ⟨S16x64x256x256, .f32⟩
  | .hbm, ⟨30, _⟩ => ⟨S_, .f32⟩
  | .hbm, ⟨31, _⟩ => ⟨S16x64, .f32⟩
  | .hbm, ⟨32, _⟩ => ⟨S_, .f32⟩
  | .hbm, ⟨33, _⟩ => ⟨S16x64, .f32⟩
  | .hbm, ⟨34, _⟩ => ⟨S16x64, .i1⟩
  | .hbm, ⟨35, _⟩ => ⟨S16x64, .f32⟩
  | .hbm, ⟨36, _⟩ => ⟨S_, .f32⟩
  | .hbm, ⟨37, _⟩ => ⟨S_, .f32⟩
  | .hbm, ⟨38, _⟩ => ⟨S16x64, .f32⟩
  | .hbm, ⟨39, _⟩ => ⟨S16x64, .f32⟩
  | .hbm, ⟨40, _⟩ => ⟨S_, .f32⟩
  | .hbm, ⟨41, _⟩ => ⟨S64, .f32⟩
  | .hbm, ⟨42, _⟩ => ⟨S_, .f32⟩
  | .hbm, ⟨43, _⟩ => ⟨S64, .f32⟩
  | .hbm, ⟨44, _⟩ => ⟨S64, .f32⟩
  | .hbm, ⟨45, _⟩ => ⟨S_, .f32⟩
  | .hbm, ⟨46, _⟩ => ⟨S64, .f32⟩
  | .hbm, ⟨47, _⟩ => ⟨S_, .f32⟩
  | .hbm, ⟨48, _⟩ => ⟨S64, .f32⟩
  | .hbm, ⟨49, _⟩ => ⟨S64, .f32⟩
  | .hbm, ⟨50, _⟩ => ⟨S1x64x1x1, .f32⟩
  | .hbm, ⟨51, _⟩ => ⟨S16x64x256x256, .f32⟩
  | .hbm, ⟨52, _⟩ => ⟨S16x64x256x256, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S1x64x1x1, .f32⟩
  | .hbm, ⟨58, _⟩ => ⟨S16x64x256x256, .f32⟩
  | .hbm, ⟨59, _⟩ => ⟨S16x64x256x256, .f32⟩
  | .hbm, ⟨60, _⟩ => ⟨S1x64x1x1, .f32⟩
  | .hbm, ⟨61, _⟩ => ⟨S16x64x256x256, .f32⟩
  | .hbm, ⟨62, _⟩ => ⟨S16x64x256x256, .f32⟩
  | .hbm, ⟨63, _⟩ => ⟨S1x64x1x1, .f32⟩
  | .hbm, ⟨64, _⟩ => ⟨S16x64x256x256, .f32⟩
  | .hbm, ⟨65, _⟩ => ⟨S16x64x256x256, .f32⟩
  | .hbm, ⟨66, _⟩ => ⟨S16x64x256x256, .i1⟩
  | .hbm, ⟨67, _⟩ => ⟨S16x64x256x256, .f32⟩
  | _, _ => ⟨S16x64x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_5 : Ref sig .tc := ⟨.hbm, 30, rfl⟩
abbrev main_v18 : Ref sig .tc := ⟨.hbm, 31, rfl⟩
abbrev main_cst_6 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_7 : Ref sig .tc := ⟨.hbm, 36, rfl⟩
abbrev main_call1_v0 : Ref sig .tc := ⟨.hbm, 37, rfl⟩
abbrev main_call1_v1 : Ref sig .tc := ⟨.hbm, 38, rfl⟩
abbrev main_v22 : Ref sig .tc := ⟨.hbm, 39, rfl⟩
abbrev main_cst_8 : Ref sig .tc := ⟨.hbm, 40, rfl⟩
abbrev main_v23 : Ref sig .tc := ⟨.hbm, 41, rfl⟩
abbrev main_cst_9 : Ref sig .tc := ⟨.hbm, 42, rfl⟩
abbrev main_v24 : Ref sig .tc := ⟨.hbm, 43, rfl⟩
abbrev main_v25 : Ref sig .tc := ⟨.hbm, 44, rfl⟩
abbrev main_cst_10 : Ref sig .tc := ⟨.hbm, 45, rfl⟩
abbrev main_v26 : Ref sig .tc := ⟨.hbm, 46, rfl⟩
abbrev main_cst_11 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_12 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== Proof.RefFrame.lean ====
/- The reference's frame: its generated run keeps the four argument arrays, and it declares no semaphore. -/
module

public import proofs.«01_k».proof.Defs
public import proofs.«01_k».proof.Proof.Gen.ReferenceIdeal.Run
public import Idealize.ShloMosaic.Lib.Quiescent
public import Idealize.ShloMosaic.Init

@[expose] public section

noncomputable section

namespace Cert.RefFrame

open Idealize.ShloMosaic Idealize.SL.Sem

/-- The reference runs, keeps its arguments and ends with every semaphore counter at zero. -/
theorem frame : Cert.quiescent_ReferenceIdeal (hReferenceIdeal := Cert.ReferenceIdeal.Gen.facts) :=
  fun m ρ _ => (θ_run Cert.ReferenceIdeal.defs _ _).mono
    (fun r h => ⟨fun c => (h c).2, sem_eq_zero_of_no_sems (by decide) r.2⟩) (Cert.ReferenceIdeal.Value.run m ρ)

end Cert.RefFrame

end
-- ==== Proof.Stats.lean ====
/- The first launch's body. It walks its block of `x` four channels and sixteen rows at a time, adding the masked tile
   (and its product with the tile) into one accumulator, and sums the accumulator over rows and lanes at the end of each
   group of channels. The walk is stated once, over any channel and row offsets, and the printed stores are it. -/
module

public import proofs.«01_k».proof.Proof.Gen.KernelIdeal.Frame

@[expose] public section

noncomputable section

namespace Cert.Stats

open Cert.KernelIdeal Cert.KernelIdeal.Gen Idealize.ShloMosaic

variable {F : FTy → Type} [FloatOps F]

/-- A tile of four channels from `c` and sixteen rows from `h` lies in a block of `x`. -/
theorem tile_inb {c h : ℕ} (hc : c + 4 ≤ 64) (hh : h + 16 ≤ 256) :
    ∀ a, (![0, c, h, 0] : Fin 4 → ℕ) a + S1x4x16x256.size a ≤ S1x64x256x256.size a
  | 0 => Nat.le_refl 1
  | 1 => hc
  | 2 => hh
  | 3 => Nat.le_refl 256

/-- Sixteen rows from `h` lie in the mask plane. -/
theorem rows_slices {h : ℕ} (hh : h + 16 ≤ 256) : S256x256.Slices ![h, 0] S16x256 :=
  ⟨rfl, fun a => match a with
    | 0 => hh
    | 1 => Nat.le_refl 256⟩

/-- Four channels from `c` lie in a block of sums. -/
theorem sums_inb {c : ℕ} (hc : c + 4 ≤ 64) :
    ∀ a, (![0, c, 0] : Fin 3 → ℕ) a + S1x4x1.size a ≤ S1x64x1.size a
  | 0 => Nat.le_refl 1
  | 1 => hc
  | 2 => Nat.le_refl 1

/-- The tile of `x` at channels from `c`, rows from `h`. -/
def tile (x0 : Vec F S1x64x256x256 .f32) {c h : ℕ} (hc : c + 4 ≤ 64) (hh : h + 16 ≤ 256) : FVec F S4x16x256 .f32 :=
  shapeCast S4x16x256 (View.ld x0 (Rect.unit (s := S1x64x256x256) ![0, c, h, 0] S1x4x16x256.size (tile_inb hc hh)))
    shapeCasts_S1x4x16x256_S4x16x256

/-- That tile with the mask's rows multiplied in. -/
def masked (vf : FVec F S256x256 .f32) (x0 : Vec F S1x64x256x256 .f32) {c h : ℕ} (hc : c + 4 ≤ 64) (hh : h + 16 ≤ 256) :
    FVec F S4x16x256 .f32 :=
  mulf (tile x0 hc hh) (broadcastTo S4x16x256
    (shapeCast S1x16x256 (extractStridedSlice S16x256 ![h, 0] vf (rows_slices hh)) shapeCasts_S16x256_S1x16x256)
    broadcasts_S1x16x256_S4x16x256)

/-- The row offsets, in the order the body visits them. -/
def rows : List {h : ℕ // h + 16 ≤ 256} :=
  [⟨0, by decide⟩, ⟨16, by decide⟩, ⟨32, by decide⟩, ⟨48, by decide⟩, ⟨64, by decide⟩, ⟨80, by decide⟩,
   ⟨96, by decide⟩, ⟨112, by decide⟩, ⟨128, by decide⟩, ⟨144, by decide⟩, ⟨160, by decide⟩, ⟨176, by decide⟩,
   ⟨192, by decide⟩, ⟨208, by decide⟩, ⟨224, by decide⟩, ⟨240, by decide⟩]

/-- The channel offsets, last first: the order in which the written pieces are listed. -/
def groups : List {c : ℕ // c + 4 ≤ 64} :=
  [⟨60, by decide⟩, ⟨56, by decide⟩, ⟨52, by decide⟩, ⟨48, by decide⟩, ⟨44, by decide⟩, ⟨40, by decide⟩,
   ⟨36, by decide⟩, ⟨32, by decide⟩, ⟨28, by decide⟩, ⟨24, by decide⟩, ⟨20, by decide⟩, ⟨16, by decide⟩,
   ⟨12, by decide⟩, ⟨8, by decide⟩, ⟨4, by decide⟩, ⟨0, by decide⟩]

/-- A walk over the rows, adding a tile at each into an accumulator of zeros. -/
def walk (T : {h : ℕ // h + 16 ≤ 256} → FVec F S4x16x256 .f32) : FVec F S4x16x256 .f32 :=
  rows.foldl (fun a h => addf a (T h)) (broadcast S4x16x256 (Scalar.ofBits .f32 0x00000000#32))

/-- An accumulator summed over its rows and its lanes: one value per channel. -/
def total (a : FVec F S4x16x256 .f32) : FVec F S1x4x1 .f32 :=
  shapeCast S1x4x1 (shapeCast S4x1 (multiReduction .add [1] S4
    (multiReduction .add [1] S4x256 a 0x00000000#32 reduces_S4x16x256_S4x256 (.inl rfl) rfl)
    0x00000000#32 reduces_S4x256_S4 (.inl rfl) rfl) shapeCasts_S4_S4x1) shapeCasts_S4x1_S1x4x1

/-- The piece of sums written for channels from `c`. -/
def pieceS (vf : FVec F S256x256 .f32) (x0 : Vec F S1x64x256x256 .f32) (c : {c : ℕ // c + 4 ≤ 64}) :
    View.Piece (Elt F) S1x64x1 .f32 :=
  ⟨Rect.unit (s := S1x64x1) ![0, c.1, 0] S1x4x1.size (sums_inb c.2), total (walk fun h => masked vf x0 c.2 h.2)⟩

/-- The piece of sums of squares written for channels from `c`. -/
def pieceQ (vf : FVec F S256x256 .f32) (x0 : Vec F S1x64x256x256 .f32) (c : {c : ℕ // c + 4 ≤ 64}) :
    View.Piece (Elt F) S1x64x1 .f32 :=
  ⟨Rect.unit (s := S1x64x1) ![0, c.1, 0] S1x4x1.size (sums_inb c.2),
    total (walk fun h => mulf (masked vf x0 c.2 h.2) (tile x0 c.2 h.2))⟩

/-- The mask plane as zeros and ones. -/
abbrev plane (x1 : Vec F S1x1x256x256 .f32) : FVec F S256x256 .f32 := k0_pay3 (View.ld x1 r0_0)

set_option maxRecDepth 65536 in
set_option maxHeartbeats 4000000 in
/-- The printed stores of the sums are the walk's. -/
theorem out_sum (x0 : Vec F S1x64x256x256 .f32) (x1 : Vec F S1x1x256x256 .f32) :
    out0_2 x0 x1 = View.canon (groups.map (pieceS (plane x1) x0)) := rfl

set_option maxRecDepth 65536 in
set_option maxHeartbeats 4000000 in
/-- The printed stores of the sums of squares are the walk's. -/
theorem out_sq (x0 : Vec F S1x64x256x256 .f32) (x1 : Vec F S1x1x256x256 .f32) :
    out0_3 x0 x1 = View.canon (groups.map (pieceQ (plane x1) x0)) := rfl

end Cert.Stats

end
-- ==== Proof.StatsVal.lean ====
/- The first launch's body at extended reals: each of its three outputs, at an index, as a sum over the plane. -/
module

public import proofs.«01_k».proof.Proof.Stats
public import Idealize.ShloMosaic.Lib.Pointwise

@[expose] public section

noncomputable section

namespace Cert.Stats

open Cert.KernelIdeal Cert.KernelIdeal.Gen Idealize.ShloMosaic

/-- A mask value as a weight: one where it is above one half, zero elsewhere. -/
def wt (m : EReal) : EReal := if Ideal.ofBits .f32 0x3F000000#32 < m then 1 else 0

/-- A comparison's bit, widened and read as a signed number. -/
theorem sitofp_bit (p : Prop) [Decidable p] :
    FloatOps.sitofp (F := Ideal) .f32 (BitVec.setWidth 32 (BitVec.ofBool (decide p))) = if p then (1 : EReal) else 0 := by
  by_cases h : p <;> simp [h, FloatOps.sitofp]

/-- A comparison's bit, read as an unsigned number. -/
theorem uitofp_bit (p : Prop) [Decidable p] :
    FloatOps.uitofp (F := Ideal) .f32 (BitVec.ofBool (decide p)) = if p then (1 : EReal) else 0 := by
  by_cases h : p <;> simp [h, FloatOps.uitofp]

theorem plane_apply (x1 : Vec Ideal S1x1x256x256 .f32) (h l : Fin 256) :
    plane x1 (ix2 h l) = wt (x1 (ix4 0 0 h l)) := by
  pointwise [plane, k0_pay3, r0_0]
  exact sitofp_bit _

theorem cast_tile (v : Vec Ideal S1x4x16x256 .f32) (a : Fin 4) (b : Fin 16) (l : Fin 256) :
    shapeCast S4x16x256 v shapeCasts_S1x4x16x256_S4x16x256 (ix3 a b l) = v (ix4 0 a b l) := by
  pointwise

theorem tile_apply (x0 : Vec Ideal S1x64x256x256 .f32) {c h : ℕ} (hc : c + 4 ≤ 64) (hh : h + 16 ≤ 256)
    (a : Fin 4) (b : Fin 16) (l : Fin 256) :
    tile x0 hc hh (ix3 a b l) = x0 (ix4 0 ⟨c + a, by omega⟩ ⟨h + b, by omega⟩ l) := by
  refine (cast_tile _ a b l).trans (congrArg x0 (funext fun k => Fin.ext ?_))
  match k with
  | 0 => rfl
  | 1 => exact congrArg (c + ·) (Nat.one_mul _)
  | 2 => exact congrArg (h + ·) (Nat.one_mul _)
  | 3 => exact (Nat.zero_add _).trans (Nat.one_mul _)

theorem masked_apply (vf : FVec Ideal S256x256 .f32) (x0 : Vec Ideal S1x64x256x256 .f32) {c h : ℕ} (hc : c + 4 ≤ 64)
    (hh : h + 16 ≤ 256) (a : Fin 4) (b : Fin 16) (l : Fin 256) :
    masked vf x0 hc hh (ix3 a b l)
      = x0 (ix4 0 ⟨c + a, by omega⟩ ⟨h + b, by omega⟩ l) * vf (ix2 ⟨h + b, by omega⟩ l) := by
  pointwise [masked, tile_apply]

theorem total_apply (a : FVec Ideal S4x16x256 .f32) (j : Fin 4) :
    total a (ix3 0 j 0) = ∑ l : Fin 256, ∑ b : Fin 16, a (ix3 j b l) := by
  pointwise [total]

theorem walk_apply (T : {h : ℕ // h + 16 ≤ 256} → FVec Ideal S4x16x256 .f32) (i : S4x16x256.Idx) :
    walk T i = ∑ k : Fin 16, T ⟨16 * k, by omega⟩ i := by
  pointwise [walk, rows, List.foldl]
  simp only [Fin.sum_univ_castSucc, Finset.univ_eq_empty, Finset.sum_empty, zero_add]
  rfl

/-- Sixteen groups of sixteen rows are the 256 rows. -/
theorem sum_rows (f : Fin 256 → EReal) :
    ∑ b : Fin 16, ∑ k : Fin 16, f ⟨16 * k + b, by omega⟩ = ∑ h : Fin 256, f h := by
  rw [Finset.sum_comm, ← Fintype.sum_prod_type' (fun (k b : Fin 16) => f ⟨16 * k + b, by omega⟩)]
  refine Fintype.sum_equiv finProdFinEquiv _ _ fun p => congrArg f (Fin.ext ?_)
  simp [finProdFinEquiv, Nat.add_comm]

/-- A group's piece, when its tiles read one function of channel, row and lane: the sum over the plane. -/
theorem piece_apply (f : Fin 64 → Fin 256 → Fin 256 → EReal) (c : {c : ℕ // c + 4 ≤ 64})
    (T : {h : ℕ // h + 16 ≤ 256} → FVec Ideal S4x16x256 .f32)
    (hT : ∀ h (a : Fin 4) (b : Fin 16) (l : Fin 256),
      T h (ix3 a b l) = f ⟨c.1 + a, by have := c.2; omega⟩ ⟨h.1 + b, by have := h.2; omega⟩ l) (j : Fin 4) :
    total (walk T) (ix3 0 j 0) = ∑ h, ∑ l, f ⟨c.1 + j, by have := c.2; omega⟩ h l := by
  simp only [total_apply, walk_apply, hT]
  rw [Finset.sum_comm]
  simp only [Finset.sum_comm (s := (Finset.univ : Finset (Fin 256))) (t := (Finset.univ : Finset (Fin 16)))]
  exact sum_rows fun h => ∑ l, f ⟨c.1 + j, by have := c.2; omega⟩ h l

/-- Where the pieces of all sixteen groups read one function of the channel, what they write reads it everywhere. -/
theorem canon_groups (f : Fin 64 → EReal) (P : {c : ℕ // c + 4 ≤ 64} → FVec Ideal S1x4x1 .f32)
    (hP : ∀ c (j : Fin 4), P c (ix3 0 j 0) = f ⟨c.1 + j, by have := c.2; omega⟩) (ch : Fin 64) :
    View.canon (Val := Elt Ideal) (groups.map fun c =>
      (⟨Rect.unit (s := S1x64x1) ![0, c.1, 0] S1x4x1.size (sums_inb c.2), P c⟩ : View.Piece (Elt Ideal) S1x64x1 .f32))
      (ix3 0 ch 0) = f ch := by
  refine (View.canon_apply_of_pieces (fun y => f (y 1)) _ ?_ _ ?_).trans rfl
  · intro p hp x
    obtain ⟨c, -, rfl⟩ := List.mem_map.mp hp
    obtain ⟨a, j, b, rfl⟩ : ∃ (a : Fin 1) (j : Fin 4) (b : Fin 1), x = ix3 a j b := ⟨x 0, x 1, x 2, eq_ix3 x⟩
    rw [Subsingleton.elim a 0, Subsingleton.elim b 0]
    exact (hP c j).trans (congrArg f (Fin.ext (congrArg (c.1 + ·) (Nat.one_mul _).symm)))
  · have hg : ∀ ch : Fin 64, ∃ c ∈ groups, c.1 ≤ ch ∧ ch.1 < c.1 + 4 := by decide
    obtain ⟨c, hc, h1, h2⟩ := hg ch
    exact ⟨_, List.mem_map.mpr ⟨c, hc, rfl⟩, (Rect.mem_set_unit (inb := sums_inb c.2)).mpr fun
      | 0 => ⟨Nat.le_refl 0, Nat.lt_succ_self 0⟩
      | 1 => ⟨h1, h2⟩
      | 2 => ⟨Nat.le_refl 0, Nat.lt_succ_self 0⟩⟩

/-- The body's sums: over the plane, the masked values of a channel. -/
theorem out_sum_apply (x0 : Vec Ideal S1x64x256x256 .f32) (x1 : Vec Ideal S1x1x256x256 .f32) (ch : Fin 64) :
    out0_2 x0 x1 (ix3 0 ch 0)
      = ∑ h : Fin 256, ∑ l : Fin 256, x0 (ix4 0 ch h l) * wt (x1 (ix4 0 0 h l)) := by
  rw [out_sum]
  refine canon_groups (fun ch => ∑ h : Fin 256, ∑ l : Fin 256, x0 (ix4 0 ch h l) * wt (x1 (ix4 0 0 h l))) _
    (fun c j => piece_apply (fun ch h l => x0 (ix4 0 ch h l) * wt (x1 (ix4 0 0 h l))) c _ (fun h a b l => ?_) j) ch
  rw [masked_apply, plane_apply]

/-- The body's sums of squares. -/
theorem out_sq_apply (x0 : Vec Ideal S1x64x256x256 .f32) (x1 : Vec Ideal S1x1x256x256 .f32) (ch : Fin 64) :
    out0_3 x0 x1 (ix3 0 ch 0)
      = ∑ h : Fin 256, ∑ l : Fin 256, x0 (ix4 0 ch h l) * wt (x1 (ix4 0 0 h l)) * x0 (ix4 0 ch h l) := by
  rw [out_sq]
  refine canon_groups (fun ch => ∑ h : Fin 256, ∑ l : Fin 256, x0 (ix4 0 ch h l) * wt (x1 (ix4 0 0 h l)) * x0 (ix4 0 ch h l)) _
    (fun c j => piece_apply (fun ch h l => x0 (ix4 0 ch h l) * wt (x1 (ix4 0 0 h l)) * x0 (ix4 0 ch h l)) c _
      (fun h a b l => ?_) j) ch
  refine congrArg₂ (· * ·) ?_ (tile_apply x0 _ _ a b l)
  rw [masked_apply, plane_apply]

/-- The body's count: the valid pixels of the plane. -/
theorem out_count_apply (x0 : Vec Ideal S1x64x256x256 .f32) (x1 : Vec Ideal S1x1x256x256 .f32) :
    out0_4 x0 x1 (ix3 0 0 0) = ∑ h : Fin 256, ∑ l : Fin 256, wt (x1 (ix4 0 0 h l)) := by
  have h0 : out0_4 x0 x1 = k0_pay2 (plane x1) := View.canon_unit_zero (by decide) _ _
  rw [h0, Finset.sum_comm]
  pointwise [k0_pay2, plane_apply]

end Cert.Stats

end
-- ==== Proof.Sums.lean ====
/- The first launch's three arrays once its grid has run: image by image, the masked sums of each channel and the count
   of kept pixels. Each is one function of the whole arrays, of which a grid point writes its own block. -/
module

public import proofs.«01_k».proof.Proof.StatsVal
public import Idealize.ShloMosaic.Lib.Pipeline.Value

@[expose] public section

noncomputable section

namespace Cert.Stats

open Cert.KernelIdeal Cert.KernelIdeal.Gen Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-- Image `b`, channel `ch`: the sum of its kept pixels. -/
def sumAt (x : S16x64x256x256.Idx → EReal) (k : S16x1x256x256.Idx → EReal) (b : Fin 16) (ch : Fin 64) : EReal :=
  ∑ h : Fin 256, ∑ l : Fin 256, x (ix4 b ch h l) * wt (k (ix4 b 0 h l))

/-- Image `b`, channel `ch`: the sum of the squares of its kept pixels. -/
def sqAt (x : S16x64x256x256.Idx → EReal) (k : S16x1x256x256.Idx → EReal) (b : Fin 16) (ch : Fin 64) : EReal :=
  ∑ h : Fin 256, ∑ l : Fin 256, x (ix4 b ch h l) * wt (k (ix4 b 0 h l)) * x (ix4 b ch h l)

/-- Image `b`: the number of its kept pixels. -/
def countAt (k : S16x1x256x256.Idx → EReal) (b : Fin 16) : EReal :=
  ∑ h : Fin 256, ∑ l : Fin 256, wt (k (ix4 b 0 h l))

/-- The image a grid point works on. -/
abbrev image (t : Fin cfg0.N) : Fin 16 := ⟨t.val, t.isLt.trans_eq N_0⟩

theorem image_block (t : Fin cfg0.N) (ch : Fin 64) (h l : Fin 256) :
    iblk0 V c 0 t (ix4 0 ch h l) = V c main_arg0 (ix4 (image t) ch h l) := by
  have e := (by decide +kernel : ∀ t : Fin grid0.N, win0_0.index t 0 * win0_0.size 0 = t.val
    ∧ win0_0.index t 1 * win0_0.size 1 = 0 ∧ win0_0.index t 2 * win0_0.size 2 = 0 ∧ win0_0.index t 3 * win0_0.size 3 = 0) t
  refine congrArg (V c main_arg0) (funext fun k => Fin.ext ?_)
  match k with
  | 0 => show win0_0.index t 0 * win0_0.size 0 + 1 * 0 = _; rw [e.1]; rfl
  | 1 => show win0_0.index t 1 * win0_0.size 1 + 1 * ch.val = _; rw [e.2.1, Nat.zero_add, Nat.one_mul]; rfl
  | 2 => show win0_0.index t 2 * win0_0.size 2 + 1 * h.val = _; rw [e.2.2.1, Nat.zero_add, Nat.one_mul]; rfl
  | 3 => show win0_0.index t 3 * win0_0.size 3 + 1 * l.val = _; rw [e.2.2.2, Nat.zero_add, Nat.one_mul]; rfl

theorem mask_block (t : Fin cfg0.N) (h l : Fin 256) :
    iblk0 V c 1 t (ix4 0 0 h l) = V c main_arg1 (ix4 (image t) 0 h l) := by
  have e := (by decide +kernel : ∀ t : Fin grid0.N, win0_1.index t 0 * win0_1.size 0 = t.val
    ∧ win0_1.index t 1 * win0_1.size 1 = 0 ∧ win0_1.index t 2 * win0_1.size 2 = 0 ∧ win0_1.index t 3 * win0_1.size 3 = 0) t
  refine congrArg (V c main_arg1) (funext fun k => Fin.ext ?_)
  match k with
  | 0 => show win0_1.index t 0 * win0_1.size 0 + 1 * 0 = _; rw [e.1]; rfl
  | 1 => show win0_1.index t 1 * win0_1.size 1 + 1 * 0 = _; rw [e.2.1]; rfl
  | 2 => show win0_1.index t 2 * win0_1.size 2 + 1 * h.val = _; rw [e.2.2.1, Nat.zero_add, Nat.one_mul]; rfl
  | 3 => show win0_1.index t 3 * win0_1.size 3 + 1 * l.val = _; rw [e.2.2.2, Nat.zero_add, Nat.one_mul]; rfl

/-- The sums' array, whole. -/
abbrev sums : S16x64x1.Idx → EReal := fun i => sumAt (V c main_arg0) (V c main_arg1) (i 0) (i 1)
/-- The squares' array, whole. -/
abbrev squares : S16x64x1.Idx → EReal := fun i => sqAt (V c main_arg0) (V c main_arg1) (i 0) (i 1)
/-- The counts' array, whole. -/
abbrev counts : S16x1x1.Idx → EReal := fun i => countAt (V c main_arg1) (i 0)

/-- Index `j` of point `t`'s block is row `t` of the array. -/
theorem emb_sum (t : Fin cfg0.N) (ch : Fin 64) :
    ((cfg0.win 2).blk t).view.emb (ix3 0 ch 0) = (ix3 (image t) ch 0 : S16x64x1.Idx) := by
  have e := (by decide +kernel : ∀ t : Fin grid0.N, win0_2.index t 0 * win0_2.size 0 = t.val
    ∧ win0_2.index t 1 * win0_2.size 1 = 0 ∧ win0_2.index t 2 * win0_2.size 2 = 0) t
  refine funext fun k => Fin.ext ?_
  match k with
  | 0 => show win0_2.index t 0 * win0_2.size 0 + 1 * 0 = _; rw [e.1]; rfl
  | 1 => show win0_2.index t 1 * win0_2.size 1 + 1 * ch.val = _; rw [e.2.1, Nat.zero_add, Nat.one_mul]; rfl
  | 2 => show win0_2.index t 2 * win0_2.size 2 + 1 * 0 = _; rw [e.2.2]; rfl

theorem emb_sq (t : Fin cfg0.N) (ch : Fin 64) :
    ((cfg0.win 3).blk t).view.emb (ix3 0 ch 0) = (ix3 (image t) ch 0 : S16x64x1.Idx) := by
  have e := (by decide +kernel : ∀ t : Fin grid0.N, win0_3.index t 0 * win0_3.size 0 = t.val
    ∧ win0_3.index t 1 * win0_3.size 1 = 0 ∧ win0_3.index t 2 * win0_3.size 2 = 0) t
  refine funext fun k => Fin.ext ?_
  match k with
  | 0 => show win0_3.index t 0 * win0_3.size 0 + 1 * 0 = _; rw [e.1]; rfl
  | 1 => show win0_3.index t 1 * win0_3.size 1 + 1 * ch.val = _; rw [e.2.1, Nat.zero_add, Nat.one_mul]; rfl
  | 2 => show win0_3.index t 2 * win0_3.size 2 + 1 * 0 = _; rw [e.2.2]; rfl

theorem emb_count (t : Fin cfg0.N) :
    ((cfg0.win 4).blk t).view.emb (ix3 0 0 0) = (ix3 (image t) 0 0 : S16x1x1.Idx) := by
  have e := (by decide +kernel : ∀ t : Fin grid0.N, win0_4.index t 0 * win0_4.size 0 = t.val
    ∧ win0_4.index t 1 * win0_4.size 1 = 0 ∧ win0_4.index t 2 * win0_4.size 2 = 0) t
  refine funext fun k => Fin.ext ?_
  match k with
  | 0 => show win0_4.index t 0 * win0_4.size 0 + 1 * 0 = _; rw [e.1]; rfl
  | 1 => show win0_4.index t 1 * win0_4.size 1 + 1 * 0 = _; rw [e.2.1]; rfl
  | 2 => show win0_4.index t 2 * win0_4.size 2 + 1 * 0 = _; rw [e.2.2]; rfl

theorem flushed_sum (t : Fin cfg0.N) :
    (dat0 V c).flushed 2 t = ((cfg0.win 2).blk t).view.read (Elt Ideal) (sums V c) := by
  show (cfg0.win 2).cut (grid0.coords t) ((dat0 V c).after 2 t) = _
  rw [after0_2]
  refine funext fun (j : S1x64x1.Idx) => ?_
  obtain ⟨z, ch, z', rfl⟩ : ∃ a b d, j = ix3 a b d := ⟨_, _, _, eq_ix3 j⟩
  obtain rfl : z = 0 := Subsingleton.elim _ _
  obtain rfl : z' = 0 := Subsingleton.elim _ _
  change (out0_2 (F := Ideal) _ _ (ix3 0 ch 0) : EReal) = sums V c (((cfg0.win 2).blk t).view.emb (ix3 0 ch 0))
  rw [out_sum_apply, emb_sum]
  simp only [image_block, mask_block]
  rfl

theorem flushed_sq (t : Fin cfg0.N) :
    (dat0 V c).flushed 3 t = ((cfg0.win 3).blk t).view.read (Elt Ideal) (squares V c) := by
  show (cfg0.win 3).cut (grid0.coords t) ((dat0 V c).after 3 t) = _
  rw [after0_3]
  refine funext fun (j : S1x64x1.Idx) => ?_
  obtain ⟨z, ch, z', rfl⟩ : ∃ a b d, j = ix3 a b d := ⟨_, _, _, eq_ix3 j⟩
  obtain rfl : z = 0 := Subsingleton.elim _ _
  obtain rfl : z' = 0 := Subsingleton.elim _ _
  change (out0_3 (F := Ideal) _ _ (ix3 0 ch 0) : EReal) = squares V c (((cfg0.win 3).blk t).view.emb (ix3 0 ch 0))
  rw [out_sq_apply, emb_sq]
  simp only [image_block, mask_block]
  rfl

theorem flushed_count (t : Fin cfg0.N) :
    (dat0 V c).flushed 4 t = ((cfg0.win 4).blk t).view.read (Elt Ideal) (counts V c) := by
  show (cfg0.win 4).cut (grid0.coords t) ((dat0 V c).after 4 t) = _
  rw [after0_4]
  refine funext fun (j : S1x1x1.Idx) => ?_
  obtain rfl : j = ix3 0 0 0 := funext fun k => by match k with | 0 | 1 | 2 => exact Subsingleton.elim (α := Fin 1) _ _
  change (out0_4 (F := Ideal) _ _ (ix3 0 0 0) : EReal) = counts V c (((cfg0.win 4).blk t).view.emb (ix3 0 0 0))
  rw [out_count_apply, emb_count]
  simp only [mask_block]
  rfl

theorem final_sum : (dat0 V c).arrAt 2 cfg0.N = sums V c :=
  (dat0 V c).arrAt_eq_of_cover 2 (sums V c) (fun t _ => flushed_sum V c t) fun (i : S16x64x1.Idx) => by
    obtain ⟨b, ch, z, rfl⟩ : ∃ a b d, i = ix3 a b d := ⟨_, _, _, eq_ix3 i⟩
    obtain rfl : z = 0 := Subsingleton.elim _ _
    exact ⟨⟨b, b.isLt.trans_eq N_0.symm⟩, flush0_2 _, emb_sum ⟨b, b.isLt.trans_eq N_0.symm⟩ ch ▸ View.emb_mem_set _ _⟩

theorem final_sq : (dat0 V c).arrAt 3 cfg0.N = squares V c :=
  (dat0 V c).arrAt_eq_of_cover 3 (squares V c) (fun t _ => flushed_sq V c t) fun (i : S16x64x1.Idx) => by
    obtain ⟨b, ch, z, rfl⟩ : ∃ a b d, i = ix3 a b d := ⟨_, _, _, eq_ix3 i⟩
    obtain rfl : z = 0 := Subsingleton.elim _ _
    exact ⟨⟨b, b.isLt.trans_eq N_0.symm⟩, flush0_3 _, emb_sq ⟨b, b.isLt.trans_eq N_0.symm⟩ ch ▸ View.emb_mem_set _ _⟩

theorem final_count : (dat0 V c).arrAt 4 cfg0.N = counts V c :=
  (dat0 V c).arrAt_eq_of_cover 4 (counts V c) (fun t _ => flushed_count V c t) fun (i : S16x1x1.Idx) => by
    obtain ⟨b, z, z', rfl⟩ : ∃ a b d, i = ix3 a b d := ⟨_, _, _, eq_ix3 i⟩
    obtain rfl : z = 0 := Subsingleton.elim _ _
    obtain rfl : z' = 0 := Subsingleton.elim _ _
    exact ⟨⟨b, b.isLt.trans_eq N_0.symm⟩, flush0_4 _, emb_count ⟨b, b.isLt.trans_eq N_0.symm⟩ ▸ View.emb_mem_set _ _⟩

end Cert.Stats
-- ==== Proof.Fold.lean ====
/- The second and third launches' bodies at extended reals, at an index: the statistics folded into one scale and one
   shift a channel, and the image scaled and shifted where the mask keeps it. -/
module

public import proofs.«01_k».proof.Proof.StatsVal
public import Idealize.ShloMosaic.Lib.Pipeline.Value

@[expose] public section

noncomputable section

namespace Cert.Fold

open Cert.KernelIdeal Cert.KernelIdeal.Gen Idealize.ShloMosaic

/-- An image's mean, of the sum `s` of `n` kept pixels; zero where none is kept. -/
def mean (n s : EReal) : EReal := if 0 < n then Ideal.div s (max n 1) else 0

/-- An image's variance by the expanded square, of the sums `s` and `q` of `n` kept pixels and of their squares; one where
    fewer than two are kept. -/
def spread (n s q : EReal) : EReal :=
  if 1 < n then Ideal.div (q - Ideal.ofBits .f32 0x40000000#32 * mean n s * s + mean n s * mean n s * n) (max n 1) else 1

/-- The average over the sixteen images. -/
def avg (f : Fin 16 → EReal) : EReal := Ideal.div (∑ b, f b) (Ideal.ofBits .f32 0x41800000#32)

/-- A channel's scale, of its weight and its averaged variance. -/
def scale (w v : EReal) : EReal := w * Ideal.rsqrt (v + Ideal.ofBits .f32 0x3727C5AC#32)

/-- A channel's shift, of its bias, its averaged mean and its scale. -/
def shift (b m a : EReal) : EReal := b - m * a

set_option maxRecDepth 16384 in
theorem mean_apply (v0 : Vec Ideal S16x64x1 .f32) (v4 : Vec Ideal S16x1x1 .f32) (b : Fin 16) (ch : Fin 64) :
    k1_pay7 v0 v4 (ix2 b ch) = mean (v4 (ix3 b 0 0)) (v0 (ix3 b ch 0)) := by
  pointwise [k1_pay7, k1_pay6, k1_pay5, k1_pay4]
  rfl

set_option maxRecDepth 16384 in
theorem avg_mean_apply (v0 : Vec Ideal S16x64x1 .f32) (v4 : Vec Ideal S16x1x1 .f32) (ch : Fin 64) :
    k1_pay8 v0 v4 (ix1 ch) = avg fun b => mean (v4 (ix3 b 0 0)) (v0 (ix3 b ch 0)) := by
  pointwise [k1_pay8, mean_apply]
  rfl

set_option maxRecDepth 16384 in
theorem avg_spread_apply (v0 v2 : Vec Ideal S16x64x1 .f32) (v4 : Vec Ideal S16x1x1 .f32) (ch : Fin 64) :
    k1_pay9 v0 v2 v4 (ix1 ch)
      = avg fun b => spread (v4 (ix3 b 0 0)) (v0 (ix3 b ch 0)) (v2 (ix3 b ch 0)) := by
  pointwise [k1_pay9, mean_apply, k1_pay6, k1_pay5, k1_pay4]
  rfl

theorem scale_apply (v37 : FVec Ideal S64 .f32) (v38 : Vec Ideal S1x64 .f32) (ch : Fin 64) :
    k1_pay1 v37 v38 (ix1 ch) = scale (v38 (ix2 0 ch)) (v37 (ix1 ch)) := by
  pointwise [k1_pay1]
  rfl

theorem out_scale_apply (x0 x1 : Vec Ideal S16x64x1 .f32) (x2 : Vec Ideal S16x1x1 .f32) (x3 x4 : Vec Ideal S1x64 .f32) (ch : Fin 64) :
    out1_5 x0 x1 x2 x3 x4 (ix2 ch 0)
      = scale (x3 (ix2 0 ch)) (avg fun b => spread (x2 (ix3 b 0 0)) (x0 (ix3 b ch 0)) (x1 (ix3 b ch 0))) := by
  unfold out1_5 k1_pay10
  rw [View.canon_unit_zero (by decide)]
  pointwise [k1_pay2, scale_apply, avg_spread_apply, r1_0, r1_1, r1_2]

theorem out_shift_apply (x0 x1 : Vec Ideal S16x64x1 .f32) (x2 : Vec Ideal S16x1x1 .f32) (x3 x4 : Vec Ideal S1x64 .f32) (ch : Fin 64) :
    out1_6 x0 x1 x2 x3 x4 (ix2 ch 0)
      = shift (x4 (ix2 0 ch)) (avg fun b => mean (x2 (ix3 b 0 0)) (x0 (ix3 b ch 0)))
          (scale (x3 (ix2 0 ch)) (avg fun b => spread (x2 (ix3 b 0 0)) (x0 (ix3 b ch 0)) (x1 (ix3 b ch 0)))) := by
  unfold out1_6 k1_pay10
  rw [View.canon_unit_zero (by decide)]
  pointwise [k1_pay3, scale_apply, avg_mean_apply, avg_spread_apply, r1_0, r1_1, r1_2]
  rfl

theorem out_norm_apply (x0 x1 : Vec Ideal S64x1 .f32) (x2 : Vec Ideal S1x64x64x256 .f32) (x3 : Vec Ideal S1x1x64x256 .f32)
    (ch h : Fin 64) (l : Fin 256) :
    out2_4 x0 x1 x2 x3 (ix4 0 ch h l)
      = if Ideal.ofBits .f32 0x3F000000#32 < x3 (ix4 0 0 h l)
          then x2 (ix4 0 ch h l) * x0 (ix2 ch 0) + x1 (ix2 ch 0) else x2 (ix4 0 ch h l) := by
  unfold out2_4
  rw [View.canon_unit_zero (by decide)]
  pointwise [k2_pay1, r2_0, r2_1, r2_2]

end Cert.Fold
-- ==== Proof.Arrays.lean ====
/- The second launch's two arrays and the third launch's result, whole, at extended reals: each a function of the arrays
   its launch finds. -/
module

public import proofs.«01_k».proof.Proof.Fold

@[expose] public section

noncomputable section

namespace Cert.Fold

open Cert.KernelIdeal Cert.KernelIdeal.Gen Idealize.ShloMosaic Idealize.ShloMosaic.TcCoe
open Idealize.ShloMosaic.Pipeline (Dat)

variable (V : (c : Dev nD) → (b : Ref sig .tc) → Buf (Elt Ideal) ((c : Thread nD τ).loc b)) (c : Dev nD)

/-! ## The fold, at its one grid point -/

theorem sum_block (t : Fin cfg1.N) (b : Fin 16) (ch : Fin 64) : iblk1 V c 0 t (ix3 b ch 0) = V c main_v0_0 (ix3 b ch 0) := by
  obtain rfl := fin_N1 t
  refine congrArg (V c main_v0_0) (funext fun k => Fin.ext ?_)
  match k with
  | 0 | 1 | 2 => exact (Nat.zero_add _).trans (Nat.one_mul _)

theorem sq_block (t : Fin cfg1.N) (b : Fin 16) (ch : Fin 64) : iblk1 V c 1 t (ix3 b ch 0) = V c main_v0_1 (ix3 b ch 0) := by
  obtain rfl := fin_N1 t
  refine congrArg (V c main_v0_1) (funext fun k => Fin.ext ?_)
  match k with
  | 0 | 1 | 2 => exact (Nat.zero_add _).trans (Nat.one_mul _)

theorem count_block (t : Fin cfg1.N) (b : Fin 16) : iblk1 V c 2 t (ix3 b 0 0) = V c main_v0_2 (ix3 b 0 0) := by
  obtain rfl := fin_N1 t
  refine congrArg (V c main_v0_2) (funext fun k => Fin.ext ?_)
  match k with
  | 0 | 1 | 2 => exact (Nat.zero_add _).trans (Nat.one_mul _)

theorem weight_block (t : Fin cfg1.N) (ch : Fin 64) : iblk1 V c 3 t (ix2 0 ch) = V c main_v1 (ix2 0 ch) := by
  obtain rfl := fin_N1 t
  refine congrArg (V c main_v1) (funext fun k => Fin.ext ?_)
  match k with
  | 0 | 1 => exact (Nat.zero_add _).trans (Nat.one_mul _)

theorem bias_block (t : Fin cfg1.N) (ch : Fin 64) : iblk1 V c 4 t (ix2 0 ch) = V c main_v2 (ix2 0 ch) := by
  obtain rfl := fin_N1 t
  refine congrArg (V c main_v2) (funext fun k => Fin.ext ?_)
  match k with
  | 0 | 1 => exact (Nat.zero_add _).trans (Nat.one_mul _)

/-- A channel's averaged mean, averaged variance, scale and shift, of the arrays the fold finds. -/
abbrev foldMean (ch : Fin 64) : EReal := avg fun b => mean (V c main_v0_2 (ix3 b 0 0)) (V c main_v0_0 (ix3 b ch 0))
abbrev foldSpread (ch : Fin 64) : EReal :=
  avg fun b => spread (V c main_v0_2 (ix3 b 0 0)) (V c main_v0_0 (ix3 b ch 0)) (V c main_v0_1 (ix3 b ch 0))
abbrev foldScale (ch : Fin 64) : EReal := scale (V c main_v1 (ix2 0 ch)) (foldSpread V c ch)
abbrev foldShift (ch : Fin 64) : EReal := shift (V c main_v2 (ix2 0 ch)) (foldMean V c ch) (foldScale V c ch)

/-- The scales' array and the shifts' array, whole. -/
abbrev scales : S64x1.Idx → EReal := fun i => foldScale V c (i 0)
abbrev shifts : S64x1.Idx → EReal := fun i => foldShift V c (i 0)

theorem emb_scale (t : Fin cfg1.N) (ch : Fin 64) :
    ((cfg1.win 5).blk t).view.emb (ix2 ch 0) = (ix2 ch 0 : S64x1.Idx) := by
  obtain rfl := fin_N1 t
  refine funext fun k => Fin.ext ?_
  match k with
  | 0 | 1 => exact (Nat.zero_add _).trans (Nat.one_mul _)

theorem emb_shift (t : Fin cfg1.N) (ch : Fin 64) :
    ((cfg1.win 6).blk t).view.emb (ix2 ch 0) = (ix2 ch 0 : S64x1.Idx) := by
  obtain rfl := fin_N1 t
  refine funext fun k => Fin.ext ?_
  match k with
  | 0 | 1 => exact (Nat.zero_add _).trans (Nat.one_mul _)

theorem flushed_scale (t : Fin cfg1.N) :
    (dat1 V c).flushed 5 t = ((cfg1.win 5).blk t).view.read (Elt Ideal) (scales V c) := by
  show (cfg1.win 5).cut (grid1.coords t) ((dat1 V c).after 5 t) = _
  rw [after1_5]
  refine funext fun (j : S64x1.Idx) => ?_
  obtain ⟨ch, z, rfl⟩ : ∃ a b, j = ix2 a b := ⟨_, _, eq_ix2 j⟩
  obtain rfl : z = 0 := Subsingleton.elim _ _
  change (out1_5 (F := Ideal) _ _ _ _ _ (ix2 ch 0) : EReal) = scales V c (((cfg1.win 5).blk t).view.emb (ix2 ch 0))
  rw [out_scale_apply, emb_scale]
  simp only [sum_block, sq_block, count_block, weight_block]
  rfl

theorem flushed_shift (t : Fin cfg1.N) :
    (dat1 V c).flushed 6 t = ((cfg1.win 6).blk t).view.read (Elt Ideal) (shifts V c) := by
  show (cfg1.win 6).cut (grid1.coords t) ((dat1 V c).after 6 t) = _
  rw [after1_6]
  refine funext fun (j : S64x1.Idx) => ?_
  obtain ⟨ch, z, rfl⟩ : ∃ a b, j = ix2 a b := ⟨_, _, eq_ix2 j⟩
  obtain rfl : z = 0 := Subsingleton.elim _ _
  change (out1_6 (F := Ideal) _ _ _ _ _ (ix2 ch 0) : EReal) = shifts V c (((cfg1.win 6).blk t).view.emb (ix2 ch 0))
  rw [out_shift_apply, emb_shift]
  simp only [sum_block, sq_block, count_block, weight_block, bias_block]
  rfl

theorem final_scale : (dat1 V c).arrAt 5 cfg1.N = scales V c :=
  (dat1 V c).arrAt_eq_of_cover 5 (scales V c) (fun t _ => flushed_scale V c t) fun (i : S64x1.Idx) => by
    obtain ⟨ch, z, rfl⟩ : ∃ a b, i = ix2 a b := ⟨_, _, eq_ix2 i⟩
    obtain rfl : z = 0 := Subsingleton.elim _ _
    exact ⟨t1_0, flush1_5 _, emb_scale t1_0 ch ▸ View.emb_mem_set _ _⟩

theorem final_shift : (dat1 V c).arrAt 6 cfg1.N = shifts V c :=
  (dat1 V c).arrAt_eq_of_cover 6 (shifts V c) (fun t _ => flushed_shift V c t) fun (i : S64x1.Idx) => by
    obtain ⟨ch, z, rfl⟩ : ∃ a b, i = ix2 a b := ⟨_, _, eq_ix2 i⟩
    obtain rfl : z = 0 := Subsingleton.elim _ _
    exact ⟨t1_0, flush1_6 _, emb_shift t1_0 ch ▸ View.emb_mem_set _ _⟩

/-! ## The normalization, a band of 64 rows of one image a grid point -/

/-- The image a grid point works on, and row `h` of its band. -/
abbrev imageOf (t : Fin cfg2.N) : Fin 16 := ⟨t.val / 4, by have : t.val < 64 := t.isLt.trans_eq N_2; omega⟩
abbrev rowOf (t : Fin cfg2.N) (h : Fin 64) : Fin 256 := ⟨t.val % 4 * 64 + h.val, by have := h.isLt; omega⟩

theorem scale_block (t : Fin cfg2.N) (ch : Fin 64) : iblk2 V c 0 t (ix2 ch 0) = V c main_v3_0 (ix2 ch 0) := by
  have e := (by decide +kernel : ∀ t : Fin grid2.N, win2_0.index t 0 * win2_0.size 0 = 0 ∧ win2_0.index t 1 * win2_0.size 1 = 0) t
  refine congrArg (V c main_v3_0) (funext fun k => Fin.ext ?_)
  match k with
  | 0 => show win2_0.index t 0 * win2_0.size 0 + 1 * ch.val = _; rw [e.1, Nat.zero_add, Nat.one_mul]; rfl
  | 1 => show win2_0.index t 1 * win2_0.size 1 + 1 * 0 = _; rw [e.2]; rfl

theorem shift_block (t : Fin cfg2.N) (ch : Fin 64) : iblk2 V c 1 t (ix2 ch 0) = V c main_v3_1 (ix2 ch 0) := by
  have e := (by decide +kernel : ∀ t : Fin grid2.N, win2_1.index t 0 * win2_1.size 0 = 0 ∧ win2_1.index t 1 * win2_1.size 1 = 0) t
  refine congrArg (V c main_v3_1) (funext fun k => Fin.ext ?_)
  match k with
  | 0 => show win2_1.index t 0 * win2_1.size 0 + 1 * ch.val = _; rw [e.1, Nat.zero_add, Nat.one_mul]; rfl
  | 1 => show win2_1.index t 1 * win2_1.size 1 + 1 * 0 = _; rw [e.2]; rfl

theorem band_block (t : Fin cfg2.N) (ch h : Fin 64) (l : Fin 256) :
    iblk2 V c 2 t (ix4 0 ch h l) = V c main_arg0 (ix4 (imageOf t) ch (rowOf t h) l) := by
  have e := (by decide +kernel : ∀ t : Fin grid2.N, win2_2.index t 0 * win2_2.size 0 = t.val / 4
    ∧ win2_2.index t 1 * win2_2.size 1 = 0 ∧ win2_2.index t 2 * win2_2.size 2 = t.val % 4 * 64 ∧ win2_2.index t 3 * win2_2.size 3 = 0) t
  refine congrArg (V c main_arg0) (funext fun k => Fin.ext ?_)
  match k with
  | 0 => show win2_2.index t 0 * win2_2.size 0 + 1 * 0 = _; rw [e.1]; rfl
  | 1 => show win2_2.index t 1 * win2_2.size 1 + 1 * ch.val = _; rw [e.2.1, Nat.zero_add, Nat.one_mul]; rfl
  | 2 => show win2_2.index t 2 * win2_2.size 2 + 1 * h.val = _; rw [e.2.2.1, Nat.one_mul]; rfl
  | 3 => show win2_2.index t 3 * win2_2.size 3 + 1 * l.val = _; rw [e.2.2.2, Nat.zero_add, Nat.one_mul]; rfl

theorem keep_block (t : Fin cfg2.N) (h : Fin 64) (l : Fin 256) :
    iblk2 V c 3 t (ix4 0 0 h l) = V c main_arg1 (ix4 (imageOf t) 0 (rowOf t h) l) := by
  have e := (by decide +kernel : ∀ t : Fin grid2.N, win2_3.index t 0 * win2_3.size 0 = t.val / 4
    ∧ win2_3.index t 1 * win2_3.size 1 = 0 ∧ win2_3.index t 2 * win2_3.size 2 = t.val % 4 * 64 ∧ win2_3.index t 3 * win2_3.size 3 = 0) t
  refine congrArg (V c main_arg1) (funext fun k => Fin.ext ?_)
  match k with
  | 0 => show win2_3.index t 0 * win2_3.size 0 + 1 * 0 = _; rw [e.1]; rfl
  | 1 => show win2_3.index t 1 * win2_3.size 1 + 1 * 0 = _; rw [e.2.1]; rfl
  | 2 => show win2_3.index t 2 * win2_3.size 2 + 1 * h.val = _; rw [e.2.2.1, Nat.one_mul]; rfl
  | 3 => show win2_3.index t 3 * win2_3.size 3 + 1 * l.val = _; rw [e.2.2.2, Nat.zero_add, Nat.one_mul]; rfl

/-- A pixel scaled and shifted where the mask value `k` keeps it. -/
def norm (k x a s : EReal) : EReal := if Ideal.ofBits .f32 0x3F000000#32 < k then x * a + s else x

/-- The result, whole. -/
abbrev result : S16x64x256x256.Idx → EReal := fun i =>
  norm (V c main_arg1 (ix4 (i 0) 0 (i 2) (i 3))) (V c main_arg0 (ix4 (i 0) (i 1) (i 2) (i 3)))
    (V c main_v3_0 (ix2 (i 1) 0)) (V c main_v3_1 (ix2 (i 1) 0))

theorem emb_result (t : Fin cfg2.N) (ch h : Fin 64) (l : Fin 256) :
    ((cfg2.win 4).blk t).view.emb (ix4 0 ch h l) = (ix4 (imageOf t) ch (rowOf t h) l : S16x64x256x256.Idx) := by
  have e := (by decide +kernel : ∀ t : Fin grid2.N, win2_4.index t 0 * win2_4.size 0 = t.val / 4
    ∧ win2_4.index t 1 * win2_4.size 1 = 0 ∧ win2_4.index t 2 * win2_4.size 2 = t.val % 4 * 64 ∧ win2_4.index t 3 * win2_4.size 3 = 0) t
  refine funext fun k => Fin.ext ?_
  match k with
  | 0 => show win2_4.index t 0 * win2_4.size 0 + 1 * 0 = _; rw [e.1]; rfl
  | 1 => show win2_4.index t 1 * win2_4.size 1 + 1 * ch.val = _; rw [e.2.1, Nat.zero_add, Nat.one_mul]; rfl
  | 2 => show win2_4.index t 2 * win2_4.size 2 + 1 * h.val = _; rw [e.2.2.1, Nat.one_mul]; rfl
  | 3 => show win2_4.index t 3 * win2_4.size 3 + 1 * l.val = _; rw [e.2.2.2, Nat.zero_add, Nat.one_mul]; rfl

theorem flushed_result (t : Fin cfg2.N) :
    (dat2 V c).flushed 4 t = ((cfg2.win 4).blk t).view.read (Elt Ideal) (result V c) := by
  show (cfg2.win 4).cut (grid2.coords t) ((dat2 V c).after 4 t) = _
  rw [after2_4]
  refine funext fun (j : S1x64x64x256.Idx) => ?_
  obtain ⟨z, ch, h, l, rfl⟩ : ∃ a b d e, j = ix4 a b d e := ⟨_, _, _, _, eq_ix4 j⟩
  obtain rfl : z = 0 := Subsingleton.elim _ _
  change (out2_4 (F := Ideal) _ _ _ _ (ix4 0 ch h l) : EReal) = result V c (((cfg2.win 4).blk t).view.emb (ix4 0 ch h l))
  rw [out_norm_apply, emb_result]
  simp only [scale_block, shift_block, band_block, keep_block]
  rfl

theorem final_result : (dat2 V c).arrAt 4 cfg2.N = result V c :=
  (dat2 V c).arrAt_eq_of_cover 4 (result V c) (fun t _ => flushed_result V c t) fun (i : S16x64x256x256.Idx) => by
    obtain ⟨b, ch, h, l, rfl⟩ : ∃ a b d e, i = ix4 a b d e := ⟨_, _, _, _, eq_ix4 i⟩
    have ht : b.val * 4 + h.val / 64 < cfg2.N := N_2 ▸ (by omega : b.val * 4 + h.val / 64 < 64)
    refine ⟨⟨_, ht⟩, flush2_4 _, ?_⟩
    have e : (ix4 (imageOf ⟨_, ht⟩) ch (rowOf ⟨_, ht⟩ ⟨h.val % 64, by omega⟩) l : S16x64x256x256.Idx) = ix4 b ch h l := by
      have e0 : imageOf ⟨_, ht⟩ = b := Fin.ext (by show (b.val * 4 + h.val / 64) / 4 = b.val; omega)
      have e1 : rowOf ⟨_, ht⟩ ⟨h.val % 64, by omega⟩ = h :=
        Fin.ext (by show (b.val * 4 + h.val / 64) % 4 * 64 + h.val % 64 = h.val; omega)
      rw [e0, e1]
    rw [← e, ← emb_result]
    exact View.emb_mem_set _ _

end Cert.Fold
-- ==== Proof.Run.lean ====
/- The kernel run from any memory, at any arithmetic: the result array ends at the contents the last launch leaves, the
   arguments as launched. -/
module

public import proofs.«01_k».proof.Proof.Gen.KernelIdeal.Frame

@[expose] public section

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem held : θ_run defs (onTc (τ := τ) (main (F := F))) ⟨m, fun _ => 0, ρ⟩ fun r => ∀ c : Dev nD,
    ∀ b ∈ Pipeline.ucRefs τ sig, r.2.mem ((c : Thread nD τ).1, b) = W4 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun _ h _ => h)

theorem run : θ_run defs (onTc (τ := τ) (main (F := F))) ⟨m, fun _ => 0, ρ⟩ fun r => ∀ c : Dev nD,
    r.2.mem ((c.tc : Thread nD τ).loc main_v4) = W4 m ρ c (Proc.devRef .tc main_v4)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  (θ_run defs _ _).mono (fun _ h c =>
    ⟨h c _ (mem_uc main_v4 (by decide)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (held m ρ)

end Cert.KernelRun
-- ==== Proof.Kern.lean ====
/- The kernel's result array at extended reals, index by index, of the memory it is launched on. -/
module

public import proofs.«01_k».proof.Proof.Sums
public import proofs.«01_k».proof.Proof.Arrays
public import proofs.«01_k».proof.Proof.Run

@[expose] public section

noncomputable section

namespace Cert.Kern

open Cert.KernelIdeal Cert.KernelIdeal.Gen Cert.Stats Cert.Fold Idealize.ShloMosaic Idealize.ShloMosaic.TcCoe

variable (m : (ℓ : Loc nD τ sig) → Buf (Elt Ideal) ℓ) (ρ : Dev nD → PrngReg) (c : Dev nD)

/-- The four arguments, as arrays of extended reals. -/
abbrev X : S16x64x256x256.Idx → EReal := m ((c : Thread nD τ).loc main_arg0)
abbrev K : S16x1x256x256.Idx → EReal := m ((c : Thread nD τ).loc main_arg1)
abbrev W : S64.Idx → EReal := m ((c : Thread nD τ).loc main_arg2)
abbrev B : S64.Idx → EReal := m ((c : Thread nD τ).loc main_arg3)

/-- What the kernel computes at image `b`, channel `ch`, row `h`, column `l`, of its four arguments. -/
def kernelAt (x : S16x64x256x256.Idx → EReal) (k : S16x1x256x256.Idx → EReal) (w b : S64.Idx → EReal)
    (i : Fin 16) (ch : Fin 64) (h l : Fin 256) : EReal :=
  let a := scale (w (ix1 ch)) (avg fun j => spread (countAt k j) (sumAt x k j ch) (sqAt x k j ch))
  norm (k (ix4 i 0 h l)) (x (ix4 i ch h l)) a
    (shift (b (ix1 ch)) (avg fun j => mean (countAt k j) (sumAt x k j ch)) a)

theorem entry_sum : V2 m ρ c main_v0_0 = sums (V0 m ρ) c :=
  (W2_of m ρ c main_v0_0 (by decide)).trans ((hF0 m ρ c 2).symm.trans (final_sum (V0 m ρ) c))
theorem entry_sq : V2 m ρ c main_v0_1 = squares (V0 m ρ) c :=
  (W2_of m ρ c main_v0_1 (by decide)).trans ((hF0 m ρ c 3).symm.trans (final_sq (V0 m ρ) c))
theorem entry_count : V2 m ρ c main_v0_2 = counts (V0 m ρ) c :=
  (W2_of m ρ c main_v0_2 (by decide)).trans ((hF0 m ρ c 4).symm.trans (final_count (V0 m ρ) c))

theorem row_apply (v : Vec Ideal S64 .f32) (ch : Fin 64) : shapeCast S1x64 v shapeCasts_S64_S1x64 (ix2 0 ch) = v (ix1 ch) := by
  pointwise

theorem entry_weight (ch : Fin 64) : V2 m ρ c main_v1 (ix2 0 ch) = W m c (ix1 ch) := by
  have e : V2 m ρ c main_v1 = shapeCast S1x64 (W1 m ρ c (Proc.devRef .tc main_arg2)) shapeCasts_S64_S1x64 := by
    show StableHlo.after hostOps1 (W1 m ρ c) (Proc.devRef .tc main_v1) = _
    simp only [StableHlo.after_cons, StableHlo.after_nil]
    rw [StableHlo.reshape_result_ne _ _ _ _ _ _ _ (by decide)]
    exact StableHlo.reshape_result _ _ _ _ _ _ _
  rw [e, W1_args m ρ c main_arg2 (by decide)]
  exact row_apply _ ch

theorem entry_bias (ch : Fin 64) : V2 m ρ c main_v2 (ix2 0 ch) = B m c (ix1 ch) := by
  have e : V2 m ρ c main_v2 = shapeCast S1x64 (W1 m ρ c (Proc.devRef .tc main_arg3)) shapeCasts_S64_S1x64 := by
    show StableHlo.after hostOps1 (W1 m ρ c) (Proc.devRef .tc main_v2) = _
    simp only [StableHlo.after_cons, StableHlo.after_nil]
    refine (StableHlo.reshape_result _ _ _ _ _ _ _).trans ?_
    rw [StableHlo.reshape_result_ne _ _ _ _ _ _ _ (by decide)]
    rfl
  rw [e, W1_args m ρ c main_arg3 (by decide)]
  exact row_apply _ ch

theorem entry_scale : V3 m ρ c main_v3_0 = scales (V2 m ρ) c :=
  (hF1 m ρ c 5).symm.trans (final_scale (V2 m ρ) c)
theorem entry_shift : V3 m ρ c main_v3_1 = shifts (V2 m ρ) c :=
  (hF1 m ρ c 6).symm.trans (final_shift (V2 m ρ) c)
theorem entry_image : V3 m ρ c main_arg0 = X m c := W3_args m ρ c main_arg0 (by decide)
theorem entry_mask : V3 m ρ c main_arg1 = K m c := W3_args m ρ c main_arg1 (by decide)

theorem result_apply (i : Fin 16) (ch : Fin 64) (h l : Fin 256) :
    W4 m ρ c (Proc.devRef .tc main_v4) (ix4 i ch h l) = kernelAt (X m c) (K m c) (W m c) (B m c) i ch h l := by
  have e : W4 m ρ c (Proc.devRef .tc main_v4) = result (V3 m ρ) c := (W4_arr m ρ c 4).trans (final_result (V3 m ρ) c)
  rw [e]
  show norm (V3 m ρ c main_arg1 (ix4 i 0 h l)) (V3 m ρ c main_arg0 (ix4 i ch h l)) (V3 m ρ c main_v3_0 (ix2 ch 0))
    (V3 m ρ c main_v3_1 (ix2 ch 0)) = _
  rw [entry_scale, entry_shift, entry_image, entry_mask]
  show norm _ _ (foldScale (V2 m ρ) c ch) (foldShift (V2 m ρ) c ch) = _
  unfold foldShift foldScale foldMean foldSpread
  rw [entry_sum, entry_sq, entry_count, entry_weight, entry_bias]
  rfl

end Cert.Kern
-- ==== Proof.RefValue.lean ====
/- The reference at extended reals, index by index, of its four arguments. -/
module

public import proofs.«01_k».proof.Proof.Kern
public import proofs.«01_k».proof.Proof.Gen.ReferenceIdeal.Read

@[expose] public section

noncomputable section

namespace Cert.RefValue

open Cert.ReferenceIdeal Cert.ReferenceIdeal.Read Idealize.ShloMosaic Idealize.ShloMosaic.TcCoe
open Cert.Stats (wt sumAt countAt)
open Cert.Fold (mean avg)

variable (x : FVec Ideal S16x64x256x256 .f32) (k : FVec Ideal S16x1x256x256 .f32) (w b : FVec Ideal S64 .f32)

/-- Image `i`, channel `ch`: the kept pixels' squared distances from the image's mean, added up. -/
def distAt (x : S16x64x256x256.Idx → EReal) (k : S16x1x256x256.Idx → EReal) (i : Fin 16) (ch : Fin 64) : EReal :=
  ∑ h : Fin 256, ∑ l : Fin 256, wt (k (ix4 i 0 h l)) * (x (ix4 i ch h l) - mean (countAt k i) (sumAt x k i ch))
    * (x (ix4 i ch h l) - mean (countAt k i) (sumAt x k i ch))

/-- An image's variance, of the squared distances added up over `n` kept pixels; one where fewer than two are kept. -/
def variance (n d : EReal) : EReal := if 1 < n then Ideal.div d (max n 1) else 1

/-- What the reference computes at image `i`, channel `ch`, row `h`, column `l`, of its four arguments. -/
def referenceAt (x : S16x64x256x256.Idx → EReal) (k : S16x1x256x256.Idx → EReal) (w b : S64.Idx → EReal)
    (i : Fin 16) (ch : Fin 64) (h l : Fin 256) : EReal :=
  if Ideal.ofBits .f32 0x3F000000#32 < k (ix4 i 0 h l) then
    Ideal.div (x (ix4 i ch h l) - avg fun j => mean (countAt k j) (sumAt x k j ch))
      (Ideal.sqrt ((avg fun j => variance (countAt k j) (distAt x k j ch)) + Ideal.ofBits .f32 0x3727C5AC#32))
      * w (ix1 ch) + b (ix1 ch)
  else x (ix4 i ch h l)

theorem keep_apply (i : Fin 16) (ch : Fin 64) (h l : Fin 256) :
    val_main_v3 (F := Ideal) k (ix4 i ch h l) = wt (k (ix4 i 0 h l)) := by
  pointwise [val_main_v3, val_main_v2, val_main_v1, val_main_v0, val_main_cst]
  exact Cert.Stats.uitofp_bit _

theorem count_apply (i : Fin 16) (ch : Fin 64) : val_main_v4 (F := Ideal) k (ix2 i ch) = countAt k i := by
  pointwise [val_main_v4, val_main_cst_0, keep_apply]
  rfl

theorem sum_apply (i : Fin 16) (ch : Fin 64) : val_main_v6 (F := Ideal) x k (ix2 i ch) = sumAt x k i ch := by
  pointwise [val_main_v6, val_main_v5, val_main_cst_1, keep_apply]
  rfl

theorem safe_apply (i : Fin 16) (ch : Fin 64) : val_main_v8 (F := Ideal) k (ix2 i ch) = max (countAt k i) 1 := by
  pointwise [val_main_v8, val_main_v7, val_main_cst_2, count_apply]

theorem mean_apply (i : Fin 16) (ch : Fin 64) :
    val_main_v12 (F := Ideal) x k (ix2 i ch) = mean (countAt k i) (sumAt x k i ch) := by
  pointwise [val_main_v12, val_main_v11, val_main_v10, val_main_v9, val_main_cst_3, val_main_cst_4, val_main_call0_v0, val_main_call0_v1,
    count_apply, sum_apply, safe_apply]
  exact congrArg (ite _ _) Ideal.ofBits_zero_f32

theorem dist_apply (i : Fin 16) (ch : Fin 64) (h l : Fin 256) :
    val_main_v15 (F := Ideal) x k (ix4 i ch h l) = x (ix4 i ch h l) - mean (countAt k i) (sumAt x k i ch) := by
  pointwise [val_main_v15, val_main_v14, val_main_v13, mean_apply]

theorem square_apply (i : Fin 16) (ch : Fin 64) : val_main_v18 (F := Ideal) x k (ix2 i ch) = distAt x k i ch := by
  pointwise [val_main_v18, val_main_v17, val_main_v16, val_main_cst_5, keep_apply, dist_apply]
  rfl

theorem variance_apply (i : Fin 16) (ch : Fin 64) :
    val_main_v22 (F := Ideal) x k (ix2 i ch) = variance (countAt k i) (distAt x k i ch) := by
  pointwise [val_main_v22, val_main_v21, val_main_v20, val_main_v19, val_main_cst_6, val_main_cst_7, val_main_call1_v0, val_main_call1_v1,
    count_apply, square_apply, safe_apply]
  exact congrArg (ite _ _) Ideal.ofBits_one_f32

theorem avg_mean_apply (ch : Fin 64) :
    val_main_v25 (F := Ideal) x k (ix1 ch) = avg fun j => mean (countAt k j) (sumAt x k j ch) := by
  pointwise [val_main_v25, val_main_v24, val_main_v23, val_main_cst_8, val_main_cst_9, mean_apply]
  rfl

theorem avg_variance_apply (ch : Fin 64) :
    val_main_v28 (F := Ideal) x k (ix1 ch) = avg fun j => variance (countAt k j) (distAt x k j ch) := by
  pointwise [val_main_v28, val_main_v27, val_main_v26, val_main_cst_10, val_main_cst_11, variance_apply]
  rfl

theorem result_apply (i : Fin 16) (ch : Fin 64) (h l : Fin 256) :
    val_main_v45 (F := Ideal) x k w b (ix4 i ch h l) = referenceAt x k w b i ch h l := by
  pointwise [val_main_v45, val_main_v29, val_main_v30, val_main_v31, val_main_v32, val_main_v33, val_main_v34, val_main_v35,
    val_main_v36, val_main_v37, val_main_v38, val_main_v39, val_main_v40, val_main_v41, val_main_v42, val_main_v43, val_main_v44,
    val_main_cst_12, val_main_v1, val_main_v0, val_main_cst, avg_mean_apply, avg_variance_apply]
  rfl

end Cert.RefValue
-- ==== Proof.Algebra.lean ====
/- The kernel's formula and the reference's agree at extended reals, where the kept pixels and the weights are finite: the
   sums are then real numbers, the expanded square is the squared distance, and scaling and shifting is normalizing. -/
module

public import proofs.«01_k».proof.Proof.RefValue

@[expose] public section

noncomputable section

namespace Cert.Algebra

open Cert.KernelIdeal Idealize.ShloMosaic
open Cert.Stats (wt sumAt sqAt countAt)
open Cert.Fold (mean spread avg scale shift)
open Cert.Kern (kernelAt)
open Cert.RefValue (distAt variance referenceAt)

/-! ## The constants -/

theorem two : Ideal.ofBits .f32 0x40000000#32 = ((2 : ℝ) : EReal) := by
  simp [Ideal.ofBits, Ideal.ieee, -EReal.coe_mul]; norm_num

theorem sixteen : Ideal.ofBits .f32 0x41800000#32 = ((16 : ℝ) : EReal) := by
  simp [Ideal.ofBits, Ideal.ieee, -EReal.coe_mul]; norm_num

/-- The small number added to a variance is a positive real. -/
theorem tiny : ∃ e : ℝ, 0 < e ∧ Ideal.ofBits .f32 0x3727C5AC#32 = (e : EReal) := by
  refine ⟨10995116 * 2 ^ (-40 : ℤ), by positivity, ?_⟩
  simp [Ideal.ofBits, Ideal.ieee, -EReal.coe_mul]

theorem infinite : Ideal.ofBits .f32 0x7F800000#32 = ⊤ := by
  simp [Ideal.ofBits, Ideal.ieee]

/-! ## Sums of reals -/

theorem coe_sum {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

theorem coe_plane (f : Fin 256 → Fin 256 → ℝ) :
    ∑ h : Fin 256, ∑ l : Fin 256, (f h l : EReal) = ((∑ h : Fin 256, ∑ l : Fin 256, f h l : ℝ) : EReal) := by
  simp only [coe_sum]

/-- The average of sixteen reals is a real. -/
theorem avg_coe (f : Fin 16 → ℝ) : avg (fun i => (f i : EReal)) = (((∑ i, f i) * (1 / 16) : ℝ) : EReal) := by
  unfold avg
  rw [sixteen, coe_sum, Ideal.div_coe (by norm_num), ← EReal.coe_mul]

/-! ## One image, one channel -/

section Plane

variable (x : S16x64x256x256.Idx → EReal) (k : S16x1x256x256.Idx → EReal)

/-- Whether the mask keeps a pixel. -/
abbrev Kept (i : Fin 16) (h l : Fin 256) : Prop := Ideal.ofBits .f32 0x3F000000#32 < k (ix4 i 0 h l)

/-- Every kept pixel is a real number. -/
def FiniteKept : Prop := ∀ i ch h l, Kept k i h l → ∃ r : ℝ, x (ix4 i ch h l) = r

/-- A pixel's weight, and a pixel, zero where the mask does not keep it, as reals. -/
def wtR (i : Fin 16) (h l : Fin 256) : ℝ := if Kept k i h l then 1 else 0
def pixR (i : Fin 16) (ch : Fin 64) (h l : Fin 256) : ℝ := if Kept k i h l then (x (ix4 i ch h l)).toReal else 0

def countR (i : Fin 16) : ℝ := ∑ h : Fin 256, ∑ l : Fin 256, wtR k i h l
def sumR (i : Fin 16) (ch : Fin 64) : ℝ := ∑ h : Fin 256, ∑ l : Fin 256, pixR x k i ch h l
def sqR (i : Fin 16) (ch : Fin 64) : ℝ := ∑ h : Fin 256, ∑ l : Fin 256, pixR x k i ch h l * pixR x k i ch h l
def meanR (i : Fin 16) (ch : Fin 64) : ℝ := if 0 < countR k i then sumR x k i ch * (1 / max (countR k i) 1) else 0
def distR (i : Fin 16) (ch : Fin 64) : ℝ :=
  ∑ h : Fin 256, ∑ l : Fin 256, wtR k i h l * (pixR x k i ch h l - meanR x k i ch) * (pixR x k i ch h l - meanR x k i ch)
def varianceR (i : Fin 16) (ch : Fin 64) : ℝ := if 1 < countR k i then distR x k i ch * (1 / max (countR k i) 1) else 1

variable {x k}

theorem wt_coe (i : Fin 16) (h l : Fin 256) : wt (k (ix4 i 0 h l)) = (wtR k i h l : EReal) := by
  unfold wt wtR
  split_ifs <;> simp

theorem count_coe (i : Fin 16) : countAt k i = (countR k i : EReal) := by
  unfold countAt countR
  simp only [wt_coe, coe_plane]

theorem sum_coe (hx : FiniteKept x k) (i : Fin 16) (ch : Fin 64) : sumAt x k i ch = (sumR x k i ch : EReal) := by
  unfold sumAt sumR
  rw [← coe_plane]
  refine Finset.sum_congr rfl fun h _ => Finset.sum_congr rfl fun l _ => ?_
  unfold wt pixR
  split_ifs with hk
  · obtain ⟨r, hr⟩ := hx i ch h l hk
    simp [hr]
  · simp

theorem sq_coe (hx : FiniteKept x k) (i : Fin 16) (ch : Fin 64) : sqAt x k i ch = (sqR x k i ch : EReal) := by
  unfold sqAt sqR
  rw [← coe_plane]
  refine Finset.sum_congr rfl fun h _ => Finset.sum_congr rfl fun l _ => ?_
  unfold wt pixR
  split_ifs with hk
  · obtain ⟨r, hr⟩ := hx i ch h l hk
    simp [hr]
  · simp

theorem safe_coe (i : Fin 16) : max (countAt k i) 1 = ((max (countR k i) 1 : ℝ) : EReal) := by
  rw [count_coe, EReal.coe_strictMono.monotone.map_max]; rfl

theorem safe_ne (i : Fin 16) : max (countR k i) 1 ≠ 0 := (lt_of_lt_of_le one_pos (le_max_right _ _)).ne'

theorem mean_coe (hx : FiniteKept x k) (i : Fin 16) (ch : Fin 64) :
    mean (countAt k i) (sumAt x k i ch) = (meanR x k i ch : EReal) := by
  unfold mean meanR
  rw [safe_coe, Ideal.div_coe (safe_ne i), sum_coe hx, count_coe]
  simp only [EReal.coe_pos]
  split_ifs
  · rw [EReal.coe_mul]
  · rfl

theorem dist_coe (hx : FiniteKept x k) (i : Fin 16) (ch : Fin 64) : distAt x k i ch = (distR x k i ch : EReal) := by
  unfold distAt distR
  rw [← coe_plane, mean_coe hx]
  refine Finset.sum_congr rfl fun h _ => Finset.sum_congr rfl fun l _ => ?_
  unfold wt wtR pixR
  split_ifs with hk
  · obtain ⟨r, hr⟩ := hx i ch h l hk
    simp [hr]
  · simp

/-- The squared distances from the mean, added up over the kept pixels, by the expanded square. -/
theorem dist_expand (i : Fin 16) (ch : Fin 64) :
    distR x k i ch = sqR x k i ch - 2 * meanR x k i ch * sumR x k i ch + meanR x k i ch * meanR x k i ch * countR k i := by
  unfold distR
  generalize meanR x k i ch = μ
  unfold sqR sumR countR
  simp only [Finset.mul_sum, ← Finset.sum_sub_distrib, ← Finset.sum_add_distrib]
  refine Finset.sum_congr rfl fun h _ => Finset.sum_congr rfl fun l _ => ?_
  unfold wtR pixR
  split_ifs <;> ring

theorem dist_nonneg (i : Fin 16) (ch : Fin 64) : 0 ≤ distR x k i ch :=
  Finset.sum_nonneg fun h _ => Finset.sum_nonneg fun l _ => by
    rw [mul_assoc]
    refine mul_nonneg ?_ (mul_self_nonneg _)
    unfold wtR
    split_ifs <;> norm_num

theorem variance_nonneg (i : Fin 16) (ch : Fin 64) : 0 ≤ varianceR x k i ch := by
  unfold varianceR
  split_ifs
  · exact mul_nonneg (dist_nonneg i ch) (one_div_nonneg.2 (zero_le_one.trans (le_max_right _ _)))
  · exact zero_le_one

theorem variance_coe (hx : FiniteKept x k) (i : Fin 16) (ch : Fin 64) :
    variance (countAt k i) (distAt x k i ch) = (varianceR x k i ch : EReal) := by
  unfold variance varianceR
  rw [safe_coe, Ideal.div_coe (safe_ne i), dist_coe hx, count_coe, ← EReal.coe_mul]
  simp only [← EReal.coe_one, EReal.coe_lt_coe_iff]
  split_ifs <;> rfl

theorem spread_coe (hx : FiniteKept x k) (i : Fin 16) (ch : Fin 64) :
    spread (countAt k i) (sumAt x k i ch) (sqAt x k i ch) = (varianceR x k i ch : EReal) := by
  rw [← variance_coe hx, dist_coe hx, dist_expand]
  unfold spread variance
  rw [mean_coe hx, sum_coe hx, sq_coe hx, two, count_coe]
  simp only [EReal.coe_add, EReal.coe_sub, EReal.coe_mul]

end Plane

/-! ## One channel: scaling and shifting is normalizing -/

theorem normalize (a μ v w : ℝ) (b : EReal) (hv : 0 ≤ v) :
    (a : EReal) * scale w v + shift b μ (scale w v)
      = Ideal.div ((a : EReal) - μ) (Ideal.sqrt ((v : EReal) + Ideal.ofBits .f32 0x3727C5AC#32)) * w + b := by
  obtain ⟨e, he, hc⟩ := tiny
  have hp : 0 < v + e := add_pos_of_nonneg_of_pos hv he
  unfold scale shift
  rw [hc, ← EReal.coe_add, Ideal.rsqrt_coe, Ideal.sqrt_coe, if_neg hp.not_gt, if_neg hp.not_gt, if_neg hp.ne',
    Ideal.div_coe (Real.sqrt_pos.2 hp).ne', sub_eq_add_neg b, add_comm b, ← add_assoc]
  refine congrArg (· + b) ?_
  simp only [← EReal.coe_mul, ← EReal.coe_sub, ← EReal.coe_neg, ← EReal.coe_add]
  refine congrArg _ ?_
  ring

/-- The kernel's formula is the reference's, where the kept pixels and the weights are real numbers. -/
theorem kernel_eq_reference {x : S16x64x256x256.Idx → EReal} {k : S16x1x256x256.Idx → EReal} {w : S64.Idx → EReal}
    (b : S64.Idx → EReal) (hx : FiniteKept x k) (hw : ∀ ch, ∃ r : ℝ, w (ix1 ch) = r) (i : Fin 16) (ch : Fin 64) (h l : Fin 256) :
    kernelAt x k w b i ch h l = referenceAt x k w b i ch h l := by
  unfold kernelAt referenceAt Cert.Fold.norm
  split_ifs with hk
  · obtain ⟨a, ha⟩ := hx i ch h l hk
    obtain ⟨r, hr⟩ := hw ch
    simp only [mean_coe hx, variance_coe hx, spread_coe hx, avg_coe, ha, hr]
    refine normalize _ _ _ _ _ (mul_nonneg (Finset.sum_nonneg fun j _ => variance_nonneg j ch) (by norm_num))
  · rfl

end Cert.Algebra
-- ==== Proof.Value.lean ====
/- What the precondition says of the arguments, and the claim that the kernel's result is the reference's. -/
module

public import proofs.«01_k».proof.Defs
public import proofs.«01_k».proof.Proof.Algebra
public import proofs.«01_k».proof.Proof.Gen.Pre_finite

@[expose] public section

noncomputable section

namespace Cert.Value

open Idealize.ShloMosaic Idealize.ShloMosaic.TcCoe

/-! ## The precondition -/

/-- An extended real whose absolute value is below infinity is a real number. -/
theorem real_of_abs {v : EReal} (h : max v (-v) < ⊤) : ∃ r : ℝ, v = r := by
  induction v with
  | bot => simp at h
  | top => simp at h
  | coe r => exact ⟨r, rfl⟩

/-- A comparison whose bit is set holds. -/
theorem lt_of_bit {p : Prop} [Decidable p] (h : BitVec.ofBool (decide p) = 1#1) : p := by
  by_contra hp
  simp [hp] at h

section Pre

open Cert.Pre_finite

theorem kept_apply (x : FVec Ideal S16x64x256x256 .f32) (k : FVec Ideal S16x1x256x256 .f32) (w b : FVec Ideal S64 .f32)
    (i : Fin 16) (ch : Fin 64) (h l : Fin 256) (e : (Cert.Pre_finite.fn (F := Ideal) x k w b).1 = fun _ => 1#1)
    (hk : Cert.Algebra.Kept k i h l) : ∃ r : ℝ, x (ix4 i ch h l) = r := by
  have e' := congrFun e (ix4 i ch h l)
  revert e'
  pointwise [Cert.Pre_finite.fn]
  rw [if_pos hk, Cert.Algebra.infinite]
  exact fun e' => real_of_abs (lt_of_bit e')

theorem weight_apply (x : FVec Ideal S16x64x256x256 .f32) (k : FVec Ideal S16x1x256x256 .f32) (w b : FVec Ideal S64 .f32)
    (ch : Fin 64) (e : (Cert.Pre_finite.fn (F := Ideal) x k w b).2 = fun _ => 1#1) : ∃ r : ℝ, w (ix1 ch) = r := by
  have e' := congrFun e (ix1 ch)
  revert e'
  pointwise [Cert.Pre_finite.fn]
  rw [Cert.Algebra.infinite]
  exact fun e' => real_of_abs (lt_of_bit e')

end Pre

/-! ## The claim -/

theorem algebraic : Cert.algebraic_KernelIdeal_ReferenceIdeal_pre_finite := by
  intro m g m' g' hpre hargs
  refine ⟨fun c => Cert.KernelIdeal.Gen.W4 m g c (Proc.devRef .tc Cert.KernelIdeal.main_v4), Cert.KernelRun.run m g,
    (θ_run Cert.ReferenceIdeal.defs _ _).mono (fun r h c => ⟨(h c).1.trans ?_, (h c).2⟩) (Cert.ReferenceIdeal.Value.run m' g')⟩
  rw [Cert.ReferenceIdeal.Read.val_main_v45_eq]
  obtain ⟨h0, h1, h2, h3⟩ := hargs c
  rw [h0, h1, h2, h3]
  refine funext fun (j : Cert.KernelIdeal.S16x64x256x256.Idx) => ?_
  obtain ⟨i, ch, h, l, rfl⟩ : ∃ a b d e, j = ix4 a b d e := ⟨_, _, _, _, eq_ix4 j⟩
  refine (Cert.RefValue.result_apply _ _ _ _ i ch h l).trans (Eq.trans ?_ (Cert.Kern.result_apply m g c i ch h l).symm)
  exact (Cert.Algebra.kernel_eq_reference _ (fun i ch h l => kept_apply _ _ _ _ i ch h l (hpre c).1)
    (fun ch => weight_apply _ _ _ _ ch (hpre c).2) i ch h l).symm

end Cert.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_finite
public import proofs.«01_k».proof.Proof.Gen.ReferenceIdeal
public import proofs.«01_k».proof.Proof.Gen.ReferenceIdeal.Run
public import proofs.«01_k».proof.Proof.Gen.ReferenceIdeal.Read
public import proofs.«01_k».proof.Proof.RefFrame
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite.Gen.facts,
    fun m ρ _ => Cert.Kernel.Gen.frame m ρ,
    fun m ρ _ => Cert.KernelIdeal.Gen.frame m ρ,
    fun m ρ _ => Cert.KernelIdeal.Gen.frame m ρ,
    fun m ρ _ => Cert.RefFrame.frame m ρ trivial,
    fun m ρ _ => Cert.RefFrame.frame m ρ trivial,
    trivial,
    Cert.Value.algebraic⟩

end Cert.Proof

end
